-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S1x2x320000 : Shape := ⟨3, ![1, 2, 320000]⟩
abbrev S10000x10000 : Shape := ⟨2, ![10000, 10000]⟩
abbrev S10000x128 : Shape := ⟨2, ![10000, 128]⟩
abbrev S10000x256 : Shape := ⟨2, ![10000, 256]⟩
abbrev S256x128 : Shape := ⟨2, ![256, 128]⟩

abbrev nBuf : Space → Nat
  | .hbm => 5
  | .vmem => 5
  | .smem => 0
  | _ => 0

abbrev bufTy : (tb : Table) → Fin (tcTables nBuf tb) → BufTy
  | .hbm, ⟨0, _⟩ => ⟨S1x10000x128, .f32⟩
  | .hbm, ⟨1, _⟩ => ⟨S1x2x320000, .i32⟩
  | .hbm, ⟨2, _⟩ => ⟨S10000x10000, .f32⟩
  | .hbm, ⟨3, _⟩ => ⟨S10000x128, .f32⟩
  | .hbm, ⟨4, _⟩ => ⟨S10000x128, .f32⟩
  | .local _ .vmem, ⟨0, _⟩ => ⟨S10000x256, .f32⟩
  | .local _ .vmem, ⟨1, _⟩ => ⟨S10000x256, .f32⟩
  | .local _ .vmem, ⟨2, _⟩ => ⟨S10000x128, .f32⟩
  | .local _ .vmem, ⟨3, _⟩ => ⟨S256x128, .f32⟩
  | .local _ .vmem, ⟨4, _⟩ => ⟨S256x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x10000x128 : Shape := ⟨3, ![1, 10000, 128]⟩
abbrev S1x2x320000 : Shape := ⟨3, ![1, 2, 320000]⟩
abbrev S10000x10000 : Shape := ⟨2, ![10000, 10000]⟩
abbrev S10000x128 : Shape := ⟨2, ![10000, 128]⟩

abbrev nBuf : Space → Nat
  | .hbm => 6
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x2x320000, .i32⟩
  | .hbm, ⟨2, _⟩ => ⟨S10000x10000, .f32⟩
  | .hbm, ⟨3, _⟩ => ⟨S10000x128, .f32⟩
  | .hbm, ⟨4, _⟩ => ⟨S10000x10000, .f32⟩
  | .hbm, ⟨5, _⟩ => ⟨S10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelFrame.lean ====
/-
  The kernel's frame. `x` arrives as a 1 by 10000 by 128 array, is reshaped to 10000 by 128, and the pipeline then
  multiplies the transpose of each 256-column strip of `e` by it, forty strips in all. The last strip has only
  16 columns inside `e`; the other 240 columns of its staging buffer hold words nothing names. This file shows that
  the run terminates, leaves the three arguments as they were and every semaphore counter at zero. It says nothing
  of the result's contents: at machine words a product may depend on its whole left operand, the unnamed columns
  included.
-/
module

public import proofs.«01_k».proof.Proof.Gen.Kernel.Frame
public import proofs.«01_k».proof.Proof.Gen.Kernel.Skeleton
public import Idealize.ShloMosaic.Lib.Pipeline.Value

@[expose] public section

noncomputable section

namespace Cert.KernelFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on any three whole buffers: it reads the first two, leaves them as they were, and leaves something in the
    third. -/
theorem body_keeps (c : Dev nD) (E : Set ℕ) (i : grid0.Coords)
    (a : Memref sig .tc .vmem S10000x256 .f32) (ha : a.IsWhole)
    (b : Memref sig .tc .vmem S10000x128 .f32) (hb : b.IsWhole)
    (o : Memref sig .tc .vmem S256x128 .f32) (ho : o.IsWhole)
    (X : Vec F S10000x256 .f32) (Y : Vec F S10000x128 .f32) (K : PUnit → sProp 𝕄) :
    iprop(owns (c : Thread nD τ) a fullShare X ∗ owns (c : Thread nD τ) b fullShare Y
        ∗ (∃ Z, owns (c : Thread nD τ) o fullShare Z)
        ∗ (iprop(owns (c : Thread nD τ) a fullShare X ∗ owns (c : Thread nD τ) b fullShare Y
            ∗ (∃ Z, owns (c : Thread nD τ) o fullShare Z)) -∗ K ⟨⟩))
      ⊢ wp frame (wpE (defs₀ (F := F)) Variants.none c none) E (cc0__mm_kernel i a ha b hb o ho) K := by
  rw [cc0__mm_kernel_eq_skeleton]; unfold cc0__mm_kernel_skel
  unfold owns
  iintro ⟨⟨%f, %hf, Ha⟩, ⟨%g, %hg, Hb⟩, ⟨%Z, %h, -, Ho⟩, Hk⟩
  sl_exec
  sl_step
  iapply Hk
  isplitl [Ha]
  · iexists f; isplitr; · ipureintro; exact hf
    iexact Ha
  isplitl [Hb]
  · iexists g; isplitr; · ipureintro; exact hg
    iexact Hb
  iexists _; iexists _; isplitr
  swap; · iexact Ho
  ipureintro; rfl

/-- The one output window, whose contents the frame says nothing of. -/
def unnamed (w : Fin cfg0.W) : Bool := w == 2

/-- The proof data: the arrays as the region finds them; after the body at point `t` the strip of `e` in its buffer
    (the columns inside the array, zero past them) and `x` in its own; nothing carried between points. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ _ := Pipeline.ΦA spec0 c
  q _ := fullShare
  owed _ := 0

/-- The proof data's arrays are the region's. -/
theorem dats_A (c : Dev nD) (w : Fin cfg0.W) : (dats m 0 c).A w = V m c (Pipeline.arrRef spec0 w) := by
  dsimp only [dats]

/-- The strip's buffer has just been fetched: the strip on the columns inside `e`, `d` past them. -/
theorem before_strip (c : Dev nD) (t : Fin cfg0.N) (d) :
    (dats m 0 c).before (0 : Fin 3) t d = win0_0.fill (grid0.coords t) d (iblk m c 0 t) := by
  unfold Dat.before; rw [if_pos (fetch0_0 t)]; rfl

/-- The second window's buffer holds `x` at every point, fetched there or kept from the first. -/
theorem before_x (c : Dev nD) (t : Fin cfg0.N) (d) : (dats m 0 c).before (1 : Fin 3) t d = iblk m c 1 t :=
  before0_1_of m (dats m 0 c) (dats_A m c 1) (fun t => by dsimp only [dats]) t d

/-- On the columns inside `e`, the strip's buffer holds the strip after the body. -/
theorem cut_after_strip (c : Dev nD) (t : Fin cfg0.N) :
    (cfg0.win 0).cut (grid0.coords t) ((dats m 0 c).after 0 t) = iblk m c 0 t := by
  dsimp only [dats]
  exact (cfg0.win 0).cut_fill (grid0.coords t) _ (iblk m c 0 t)

/-- The table's row for the body at a point's buffers is the printed body. -/
theorem row_eq (t : Fin cfg0.N) : defs₀ (F := F) .tc cfg0.body (cfg0.bodyArgs t (cfg0.slots t)) = bodyAt0 t := by
  unfold defs₀; rw [Defs.onTc_tc]

/-- The body obligation at every point, the output's contents unnamed. -/
theorem body_obligation (c : Dev nD) :
    BodyObligationLoose (dats m 0 c) (defs₀ (F := F)) Variants.none () Set.univ unnamed := fun t => by
  rw [bigSep_W0, bigSep_W0, row_eq]
  simp only [show unnamed 0 = false from rfl, show unnamed 1 = false from rfl, show unnamed 2 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_strip m c t d0, before_x m c t d1]
  iapply (body_keeps (F := F) c Set.univ (grid0.coords t) _ _ _ _ _ _
    (win0_0.fill (grid0.coords t) d0 (iblk m c 0 t)) (iblk m c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    rw [cut_after_strip m c t]
    iexact H0
  isplitl [H1]; · iexact H1
  iexact H2

set_option backward.isDefEq.respectTransparency.types false in
set_option maxHeartbeats 800000 in
/-- Every run terminates; each array ends at contents the pipeline allows it, every other buffer as the region found
    it, and every counter at zero. -/
theorem run_main : θ_run defs (onTc (τ := τ) (main (F := F))) (s₀ m ρ) (fun r =>
    Pipeline.RDat.FramePost cfg0 (fun c => (dats m 0 c).toRForget unnamed) (V m) r ∧ r.2.sem = fun _ => 0) :=
  Pipeline.θ_run_frame_forget (Q' := _) cfgs (dats m) (0 : Fin 1) launch0 defs₀ Variants.none unnamed m ρ main
    (hbody := body_obligation m) (hshare := fun c => (dats m 0 c).share_full fun _ => rfl)
    (howed := fun _ _ => rfl) (V := V m) (hmain := hmain m Variants.none) (hA := dats_A m) (hΦ := fun _ _ => rfl)

/-- The frame: every run terminates, the three arguments end as they were, every counter ends at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (Pipeline.RDat.FramePost.arr_in h.1 c 0 rfl).trans ((dats_A m c 0).trans (V_main_arg2 m c))⟩, h.2⟩)
    (run_main m ρ)

end Cert.KernelFrame

end
-- ==== Proof.Product.lean ====
/-
  The mathematics both programs compute: `eᵀ · x[0]`, for `e` 10000 by 10000 and `x` 1 by 10000 by 128.
-/
module

public import Idealize.ShloMosaic.PureOps.Ideal
public import Idealize.ShloMosaic.Lib.Pointwise.Index

@[expose] public section

noncomputable section

namespace Cert.Product

open Idealize.ShloMosaic

/-- Entry `(i, d)` of `eᵀ · x[0]`: the sum over `k` of `e[k, i] * x[0, k, d]`, in the extended reals. -/
def tdot (e : (⟨2, ![10000, 10000]⟩ : Shape).Idx → EReal) (x : (⟨3, ![1, 10000, 128]⟩ : Shape).Idx → EReal) :
    (⟨2, ![10000, 128]⟩ : Shape).Idx → EReal :=
  fun j => ∑ k : Fin 10000, e (ix2 k (j 0)) * x (ix3 0 k (j 1))

/-- Its entries, spelt out. -/
theorem tdot_apply (e : (⟨2, ![10000, 10000]⟩ : Shape).Idx → EReal) (x : (⟨3, ![1, 10000, 128]⟩ : Shape).Idx → EReal)
    (j : (⟨2, ![10000, 128]⟩ : Shape).Idx) : tdot e x j = ∑ k : Fin 10000, e (ix2 k (j 0)) * x (ix3 0 k (j 1)) := rfl

end Cert.Product

end
-- ==== Proof.KernelValue.lean ====
/-
  What the idealized kernel computes: on every run the result array ends holding `eᵀ · x[0]`, entry for entry.

  The pipeline takes `e` in forty strips of 256 columns. The last strip overhangs `e` by 240 columns, whose words
  nothing names. In exact arithmetic row `r` of the product of a strip's transpose with `x` reads column `r` of the
  strip only, and only the rows whose column lies inside `e` are written back, so the unnamed words never reach the
  result.
-/
module

public import proofs.«01_k».proof.Proof.KernelFrame
public import proofs.«01_k».proof.Proof.Product
public import proofs.«01_k».proof.Proof.Gen.KernelIdeal.Frame
public import proofs.«01_k».proof.Proof.Gen.KernelIdeal.Skeleton
public import Idealize.ShloMosaic.Lib.Pipeline.Value
public import Idealize.ShloMosaic.Lib.Pointwise
public import Idealize.ShloMosaic.Lib.Claim

@[expose] public section

noncomputable section

namespace Cert.KernelValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Product (tdot tdot_apply)

local notation "𝕄" => MT nD τ sig Unit (Elt Ideal) ℕ (UR sig nD τ) ℕ

variable (m : (ℓ : Loc nD τ sig) → Buf (Elt Ideal) ℓ) (ρ : Dev nD → PrngReg)

/-! ## The body -/

/-- The body on any three whole buffers: it reads the first two, leaves them as they were, and leaves the product of
    their contents in the third. -/
theorem body_computes (c : Dev nD) (E : Set ℕ) (i : grid0.Coords)
    (a : Memref sig .tc .vmem S10000x256 .f32) (ha : a.IsWhole)
    (b : Memref sig .tc .vmem S10000x128 .f32) (hb : b.IsWhole)
    (o : Memref sig .tc .vmem S256x128 .f32) (ho : o.IsWhole)
    (X : Vec Ideal S10000x256 .f32) (Y : Vec Ideal S10000x128 .f32) (K : PUnit → sProp 𝕄) :
    iprop(owns (c : Thread nD τ) a fullShare X ∗ owns (c : Thread nD τ) b fullShare Y
        ∗ (∃ Z, owns (c : Thread nD τ) o fullShare Z)
        ∗ (iprop(owns (c : Thread nD τ) a fullShare X ∗ owns (c : Thread nD τ) b fullShare Y
            ∗ owns (c : Thread nD τ) o fullShare (k0_pay1 X Y)) -∗ K ⟨⟩))
      ⊢ wp frame (wpE (defs₀ (F := Ideal)) Variants.none c none) E (cc0__mm_kernel i a ha b hb o ho) K := by
  have hz : (![0, 0] : Fin 2 → Nat) = fun _ => 0 := funext fun a => by fin_cases a <;> rfl
  rw [cc0__mm_kernel_eq_skeleton]; unfold cc0__mm_kernel_skel
  unfold owns
  iintro ⟨⟨%f, %hf, Ha⟩, ⟨%g, %hg, Hb⟩, ⟨%Z, %h, -, Ho⟩, Hk⟩
  subst hf hg
  sl_exec
  sl_step
  iapply Hk
  isplitl [Ha]
  · iexists f; isplitr; · ipureintro; rfl
    iexact Ha
  isplitl [Hb]
  · iexists g; isplitr; · ipureintro; rfl
    iexact Hb
  iexists _; isplitr
  swap; · iexact Ho
  ipureintro
  refine (View.read_writes_eq_canon _ _ _ fun y =>
    ⟨_, List.mem_singleton_self _, View.mem_set_unit_zero hz inb_S256x128_S256x128_0_0 y⟩).trans ?_
  refine (View.canon_unit_zero hz _ _).trans ?_
  exact congrArg₂ k0_pay1 (View.ld_unit_zero hz _ _) (View.ld_unit_zero hz _ _)

/-- The product at an entry: the sum, over the 10000 rows, of the products of the two buffers' entries. -/
theorem pay_apply (X : Vec Ideal S10000x256 .f32) (Y : Vec Ideal S10000x128 .f32) (j : S256x128.Idx) :
    k0_pay1 X Y j = ∑ k : Fin 10000, X (ix2 k (j 0)) * Y (ix2 k (j 1)) := by
  unfold k0_pay1
  simp only [pointwise, shapeCast_self]
  exact zero_add _

/-! ## The schedule's numbers -/

/-- Point `t` fetches strip `t` of `e` and writes row block `t` of the result. -/
theorem index_eq : ∀ t : Fin cfg0.N, win0_0.index t 0 = 0 ∧ win0_0.index t 1 = t.val
    ∧ win0_2.index t 0 = t.val ∧ win0_2.index t 1 = 0 :=
  (by decide +kernel : ∀ t : Fin grid0.N, win0_0.index t 0 = 0 ∧ win0_0.index t 1 = t.val
    ∧ win0_2.index t 0 = t.val ∧ win0_2.index t 1 = 0)

/-- The part of a strip inside `e` has all 10000 rows and at most 256 columns; the part of a row block inside the
    result has as many rows as that has columns, and all 128 columns. -/
theorem size_eq : ∀ t : Fin cfg0.N, win0_0.xsize (grid0.coords t) 0 = 10000
    ∧ win0_0.xsize (grid0.coords t) 1 = min 256 (10000 - 256 * t.val)
    ∧ win0_2.xsize (grid0.coords t) 0 = min 256 (10000 - 256 * t.val)
    ∧ win0_2.xsize (grid0.coords t) 1 = 128 :=
  (by decide +kernel : ∀ t : Fin grid0.N, win0_0.xsize (grid0.coords t) 0 = 10000
    ∧ win0_0.xsize (grid0.coords t) 1 = min 256 (10000 - 256 * t.val)
    ∧ win0_2.xsize (grid0.coords t) 0 = min 256 (10000 - 256 * t.val)
    ∧ win0_2.xsize (grid0.coords t) 1 = 128)

/-! ## The fetched blocks -/

/-- Entry `(k, q)` of strip `t` sits at row `k` and column `256 t + q` of `e`. -/
theorem strip_emb (t : Fin cfg0.N) (y : (win0_0.xblock (grid0.coords t)).Idx) (k i : Fin 10000)
    (hk : (y 0).val = k.val) (hi : i.val = 256 * t.val + (y 1).val) : (win0_0.rect t).emb y = ix2 k i := by
  have h0 : ((win0_0.rect t).emb y 0).val = k.val :=
    (win0_0.rect_emb_val_of_index_zero t 0 (index_eq t).1 y).trans hk
  have h1 : ((win0_0.rect t).emb y 1).val = i.val := by
    refine (win0_0.rect_emb_val t y 1).trans ?_
    rw [(index_eq t).2.1, hi, Nat.mul_comm]
    rfl
  exact funext fun a => Fin.ext (by
    match a with
    | ⟨0, _⟩ => exact h0
    | ⟨1, _⟩ => exact h1)

/-- The strip fetched at point `t`, read in the buffer at row `k` and column `q`: `e` at row `k` and column
    `256 t + q`, when that column is inside `e`. -/
theorem strip_apply (c : Dev nD) (t : Fin cfg0.N) (d : S10000x256.Idx → EReal) (k : Fin 10000) (q : Fin 256)
    (i : Fin 10000) (hi : i.val = 256 * t.val + q.val) :
    win0_0.fill (grid0.coords t) d (iblk m c 0 t) (ix2 k q) = m ((c : Thread nD τ).loc main_arg2) (ix2 k i) := by
  have hm : win0_0.moved (grid0.coords t) (ix2 k q) = true := (win0_0.moved_iff _ _).mpr fun a => by
    match a with
    | ⟨0, _⟩ => exact Nat.lt_of_lt_of_eq k.isLt (size_eq t).1.symm
    | ⟨1, _⟩ =>
      refine Nat.lt_of_lt_of_eq (m := min 256 (10000 - 256 * t.val)) ?_ (size_eq t).2.1.symm
      have := i.isLt; have := q.isLt
      show q.val < _
      omega
  unfold Window.fill
  rw [dif_pos hm, ← V_main_arg2 m c]
  show V m c main_arg2 ((win0_0.rect t).emb _) = _
  exact congrArg (V m c main_arg2) (strip_emb t _ k i rfl hi)

/-- The second window's block, at every point, is `x[0]`. -/
theorem x_apply (c : Dev nD) (t : Fin cfg0.N) (k : Fin 10000) (d : Fin 128) :
    iblk m c 1 t (ix2 k d) = m ((c : Thread nD τ).loc main_arg0) (ix3 0 k d) := by
  have he : (win0_1.rect t).emb (ix2 k d) = ix2 k d := funext fun a => Fin.ext
    (win0_1.rect_emb_val_of_index_zero t a (by match a with | ⟨0, _⟩ => rfl | ⟨1, _⟩ => rfl) _)
  show V m c main_v0 ((win0_1.rect t).emb (ix2 k d)) = _
  rw [he]
  entry_read
  pointwise

/-! ## The row blocks written back -/

/-- What the result array is shown to hold on core `c`: `eᵀ · x[0]` of the arguments as launched. -/
def result (c : Dev nD) : Buf (Elt Ideal) ((c : Thread nD τ).loc main_v1) :=
  tdot (m ((c : Thread nD τ).loc main_arg2)) (m ((c : Thread nD τ).loc main_arg0))

/-- Row `r` of row block `t` sits at row `256 t + r` of the result, -/
theorem row_emb (t : Fin cfg0.N) (y : (win0_2.xblock (grid0.coords t)).Idx) :
    ((win0_2.rect t).emb y 0).val = 256 * t.val + (y 0).val := by
  refine (win0_2.rect_emb_val t y 0).trans ?_
  rw [(index_eq t).2.2.1, Nat.mul_comm]
  rfl

/-- and its columns where they are. -/
theorem col_emb (t : Fin cfg0.N) (y : (win0_2.xblock (grid0.coords t)).Idx) :
    ((win0_2.rect t).emb y 1).val = (y 1).val :=
  win0_2.rect_emb_val_of_index_zero t 1 (index_eq t).2.2.2 y

/-- The body's product at row `z 0` and column `z 1` is entry `(256 t + z 0, z 1)` of `eᵀ · x[0]`, when that row is
    inside the result, whatever words `d` lie past the strip's last column. -/
theorem pay_block (c : Dev nD) (t : Fin cfg0.N) (d : S10000x256.Idx → EReal) (z : S256x128.Idx) (j : S10000x128.Idx)
    (h0 : (j 0).val = 256 * t.val + (z 0).val) (h1 : (j 1).val = (z 1).val) :
    k0_pay1 (F := Ideal) (win0_0.fill (grid0.coords t) d (iblk m c 0 t)) (iblk m c 1 t) z = result m c j := by
  rw [pay_apply]
  refine Eq.trans ?_ (tdot_apply _ _ j).symm
  refine Finset.sum_congr rfl fun k _ => ?_
  rw [strip_apply m c t d k (z 0) (j 0) h0, x_apply m c t k (z 1), show z 1 = j 1 from Fin.ext h1.symm]

set_option maxRecDepth 16384 in
/-- So the rows of the body's product that lie inside the result are row block `t` of `eᵀ · x[0]`. -/
theorem cut_pay (c : Dev nD) (t : Fin cfg0.N) (d : S10000x256.Idx → EReal) :
    win0_2.cut (grid0.coords t) (k0_pay1 (F := Ideal) (win0_0.fill (grid0.coords t) d (iblk m c 0 t)) (iblk m c 1 t))
      = (win0_2.blk t).view.read (Elt Ideal) (result m c) :=
  funext fun y => pay_block m c t d (win0_2.xinj (grid0.coords t) y) ((win0_2.rect t).emb y) (row_emb t y) (col_emb t y)

/-- An entry of the result whose row is among the 256 from `256 t` lies in row block `t`. -/
theorem mem_rows (t : Fin cfg0.N) (i : S10000x128.Idx) (h : 256 * t.val ≤ (i 0).val) (h' : (i 0).val < 256 * t.val + 256) :
    i ∈ (win0_2.blk t).view.set := by
  show i ∈ ((View.whole main_v1).slice (win0_2.rect t)).set
  rw [View.set_slice_whole, Rect.mem_set_unit]
  have hi : (i 0).val < 10000 := (i 0).isLt
  have hj : (i 1).val < 128 := (i 1).isLt
  obtain ⟨-, -, i0, i1⟩ := index_eq t
  obtain ⟨-, -, s0, s1⟩ := size_eq t
  intro a
  match a with
  | ⟨0, _⟩ =>
    show win0_2.index t 0 * 256 ≤ (i 0).val ∧ (i 0).val < win0_2.index t 0 * 256 + win0_2.xsize (grid0.coords t) 0
    rw [i0, s0]; omega
  | ⟨1, _⟩ =>
    show win0_2.index t 1 * 128 ≤ (i 1).val ∧ (i 1).val < win0_2.index t 1 * 128 + win0_2.xsize (grid0.coords t) 1
    rw [i1, s1]; omega

/-- Every entry of the result lies in some row block. -/
theorem covered (i : S10000x128.Idx) : ∃ t : Fin cfg0.N, i ∈ (win0_2.blk t).view.set := by
  have hi : (i 0).val < 10000 := (i 0).isLt
  have ht : (i 0).val / 256 < cfg0.N := by show _ < grid0.N; rw [N_0]; omega
  exact ⟨⟨(i 0).val / 256, ht⟩, mem_rows ⟨(i 0).val / 256, ht⟩ i (by show 256 * ((i 0).val / 256) ≤ _; omega)
    (by show _ < 256 * ((i 0).val / 256) + 256; omega)⟩

/-! ## The proof data and the run -/

/-- The proof data: the arrays as the region finds them; after the body at point `t` the strip of `e` in its buffer and
    row block `t` of `eᵀ · x[0]` in the result's (on the part inside the array, zero past it), `x[0]` in its own;
    nothing carried between points. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ _ := Pipeline.ΦA spec0 c
  q _ := fullShare
  owed _ := 0

/-- The proof data's arrays are the region's. -/
theorem dats_A (c : Dev nD) (w : Fin cfg0.W) : (dats m 0 c).A w = V m c (Pipeline.arrRef spec0 w) := by
  dsimp only [dats]

/-- The strip's buffer has just been fetched: the strip on the columns inside `e`, `d` past them. -/
theorem before_strip (c : Dev nD) (t : Fin cfg0.N) (d) :
    (dats m 0 c).before (0 : Fin 3) t d = win0_0.fill (grid0.coords t) d (iblk m c 0 t) := by
  unfold Dat.before; rw [if_pos (fetch0_0 t)]; rfl

/-- The second window's buffer holds `x[0]` at every point, fetched there or kept from the first. -/
theorem before_x (c : Dev nD) (t : Fin cfg0.N) (d) : (dats m 0 c).before (1 : Fin 3) t d = iblk m c 1 t :=
  before0_1_of m (dats m 0 c) (dats_A m c 1) (fun t => by dsimp only [dats]) t d

/-- On the columns inside `e`, the strip's buffer holds the strip after the body, -/
theorem cut_after_strip (c : Dev nD) (t : Fin cfg0.N) :
    (cfg0.win 0).cut (grid0.coords t) ((dats m 0 c).after 0 t) = iblk m c 0 t := by
  dsimp only [dats]
  exact (cfg0.win 0).cut_fill (grid0.coords t) _ (iblk m c 0 t)

/-- and on the rows inside the result, the result's buffer holds the row block. -/
theorem cut_after_rows (c : Dev nD) (t : Fin cfg0.N) :
    (cfg0.win 2).cut (grid0.coords t) ((dats m 0 c).after 2 t) = (win0_2.blk t).view.read (Elt Ideal) (result m c) := by
  dsimp only [dats]
  exact (cfg0.win 2).cut_fill (grid0.coords t) _ ((win0_2.blk t).view.read (Elt Ideal) (result m c))

/-- The table's row for the body at a point's buffers is the printed body. -/
theorem row_eq (t : Fin cfg0.N) : defs₀ (F := Ideal) .tc cfg0.body (cfg0.bodyArgs t (cfg0.slots t)) = bodyAt0 t := by
  unfold defs₀; rw [Defs.onTc_tc]

/-- The body obligation at every point. -/
theorem body_obligation (c : Dev nD) :
    BodyObligationLoose (dats m 0 c) (defs₀ (F := Ideal)) Variants.none () Set.univ := fun t => by
  rw [bigSep_W0, bigSep_W0, row_eq]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_strip m c t d0, before_x m c t d1]
  iapply (body_computes c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [cut_after_strip m c t]
    iexact H0
  isplitl [H1]; · iexact H1
  iexists (k0_pay1 (F := Ideal) (win0_0.fill (grid0.coords t) d0 (iblk m c 0 t)) (iblk m c 1 t))
  rw [cut_after_rows m c t, ← cut_pay m c t d0, (cfg0.win 2).fill_cut]
  iexact H2

set_option backward.isDefEq.respectTransparency.types false in
set_option maxHeartbeats 800000 in
/-- Every run terminates; each array ends at what the proof data says, every other buffer as the region found it, and
    every counter at zero. -/
theorem run_main : θ_run defs (onTc (τ := τ) (main (F := Ideal))) (s₀ m ρ) (fun r =>
    Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := dats_A m) (hΦ := fun _ _ => rfl)

/-- After the last write-back the result array is `eᵀ · x[0]`. -/
theorem final_eq (c : Dev nD) : (dats m 0 c).arrAt 2 cfg0.N = result m c :=
  (dats m 0 c).arrAt_eq_of_cover 2 (result m c) (fun t _ => cut_after_rows m c t)
    fun i => (covered i).imp fun t h => ⟨flush0_2 t, h⟩

/-- The arguments end as they were and every counter ends at zero. -/
theorem frame : θ_run defs (onTc (τ := τ) (main (F := Ideal))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The value: the result array ends at `eᵀ · x[0]`, the arguments as they were. -/
theorem value : θ_run defs (onTc (τ := τ) (main (F := Ideal))) (s₀ m ρ) (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).1 2).trans (final_eq m c), h.1.1 c⟩)
    (θ_run_and (frame m ρ) (run_main m ρ))

end Cert.KernelValue

end
-- ==== Proof.RefValue.lean ====
/-
  What the idealized reference computes: the same `eᵀ · x[0]`. It transposes `e`, reshapes `x` to 10000 by 128 and
  multiplies the two.
-/
module

public import proofs.«01_k».proof.Proof.KernelValue
public import proofs.«01_k».proof.Proof.Gen.ReferenceIdeal.Run

@[expose] public section

noncomputable section

namespace Cert.RefValue

open Cert.ReferenceIdeal Cert.ReferenceIdeal.Gen
open Idealize.ShloMosaic Idealize.ShloMosaic.TcCoe Idealize.SL.Sem
open Cert.Product (tdot tdot_apply)

variable (m : (ℓ : Loc nD τ sig) → Buf (Elt Ideal) ℓ) (ρ : Dev nD → PrngReg)

set_option maxRecDepth 16384 in
/-- The product of the transposed `e` and the reshaped `x` is `eᵀ · x[0]`, entry for entry. -/
theorem dot_eq (e : FVec Ideal S10000x10000 .f32) (x : FVec Ideal S1x10000x128 .f32) :
    Host.dotGeneral dot_S10000x10000_S10000x128_S10000x128_1_0_0_1_n_n none
      (transpose S10000x10000 [1, 0] e transposes_S10000x10000_S10000x10000_1_0)
      (shapeCast S10000x128 x shapeCasts_S1x10000x128_S10000x128) = tdot e x := by
  funext j
  refine Eq.trans ?_ (tdot_apply e x j).symm
  pointwise

set_option maxRecDepth 16384 in
/-- The reference ends with `eᵀ · x[0]` in its result array and its arguments as they were. -/
theorem value : θ_run defs (onTc (τ := τ) (main (F := Ideal))) ⟨m, fun _ => 0, ρ⟩ (fun r => ∀ c : Dev nD,
      r.2.mem ((c.tc : Thread nD τ).loc main_v2)
        = tdot (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (dot_eq _ _), (h c).2⟩) (Value.run m ρ)

/-- Its arguments end as they were; the reference has no semaphore, so every counter is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (value m ρ)

end Cert.RefValue

end
-- ==== Proof.lean ====
/-
  The claim, put together: each program leaves its arguments as they were and ends with its counters at zero, and the
  idealized kernel and the idealized reference both end with `eᵀ · x[0]`.
-/
module

public import proofs.«01_k».proof.Defs
public import proofs.«01_k».proof.Proof.KernelFrame
public import proofs.«01_k».proof.Proof.KernelValue
public import proofs.«01_k».proof.Proof.RefValue
public import Idealize.ShloMosaic.Lib.Quiescent

@[expose] public section

noncomputable section

namespace Cert.Proof

open Idealize.ShloMosaic Idealize.ShloMosaic.TcCoe Idealize.SL.Sem

/-- All five claims. For the last one, the two programs are started on equal arguments, so the product of the
    reference's arguments is the product of the kernel's. -/
theorem claim : Cert.Claim :=
  ⟨Cert.Kernel.Gen.facts, Cert.KernelIdeal.Gen.facts, Cert.ReferenceIdeal.Gen.facts,
    fun m g _ => Cert.KernelFrame.frame m g,
    fun m g _ => Cert.KernelValue.frame m g,
    fun m g _ => Cert.RefValue.frame m g,
    trivial,
    fun m g m' g' _ h =>
      ⟨fun c => Cert.KernelValue.result m c, Cert.KernelValue.value m g,
        (θ_run Cert.ReferenceIdeal.defs _ _).mono
          (fun _ hr c => ⟨(hr c).1.trans (congrArg₂ Cert.Product.tdot (h c).2.2 (h c).1), (hr c).2⟩)
          (Cert.RefValue.value m' g')⟩⟩

end Cert.Proof

end
